-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x7168 : Shape := ⟨3, ![256, 1, 7168]⟩
abbrev S256x1x4 : Shape := ⟨3, ![256, 1, 4]⟩
abbrev S8x7168x1536 : Shape := ⟨3, ![8, 7168, 1536]⟩
abbrev S8x1536 : Shape := ⟨2, ![8, 1536]⟩
abbrev S8x768x7168 : Shape := ⟨3, ![8, 768, 7168]⟩
abbrev S8x7168 : Shape := ⟨2, ![8, 7168]⟩
abbrev S256x7168 : Shape := ⟨2, ![256, 7168]⟩
abbrev S256x4 : Shape := ⟨2, ![256, 4]⟩
abbrev S8x1x1536 : Shape := ⟨3, ![8, 1, 1536]⟩
abbrev S8x1x7168 : Shape := ⟨3, ![8, 1, 7168]⟩
abbrev S1x7168x1536 : Shape := ⟨3, ![1, 7168, 1536]⟩
abbrev S1x1x1536 : Shape := ⟨3, ![1, 1, 1536]⟩
abbrev S1x768x7168 : Shape := ⟨3, ![1, 768, 7168]⟩
abbrev S1x1x7168 : Shape := ⟨3, ![1, 1, 7168]⟩
abbrev S256 : Shape := ⟨1, ![256]⟩
abbrev S256x1 : Shape := ⟨2, ![256, 1]⟩
abbrev S7168x1536 : Shape := ⟨2, ![7168, 1536]⟩
abbrev S256x1536 : Shape := ⟨2, ![256, 1536]⟩
abbrev S1x1536 : Shape := ⟨2, ![1, 1536]⟩
abbrev S256x768 : Shape := ⟨2, ![256, 768]⟩
abbrev S768x7168 : Shape := ⟨2, ![768, 7168]⟩
abbrev S1x7168 : Shape := ⟨2, ![1, 7168]⟩

abbrev nBuf : Space → Nat
  | .hbm => 14
  | .vmem => 13
  | .smem => 0
  | _ => 0

abbrev bufTy : (tb : Table) → Fin (tcTables nBuf tb) → BufTy
  | .hbm, ⟨0, _⟩ => ⟨S256x1x7168, .bf16⟩
  | .hbm, ⟨1, _⟩ => ⟨S256x1x4, .i32⟩
  | .hbm, ⟨2, _⟩ => ⟨S256x1x4, .f32⟩
  | .hbm, ⟨3, _⟩ => ⟨S8x7168x1536, .fp8e4m3⟩
  | .hbm, ⟨4, _⟩ => ⟨S8x1536, .f32⟩
  | .hbm, ⟨5, _⟩ => ⟨S8x768x7168, .fp8e4m3⟩
  | .hbm, ⟨6, _⟩ => ⟨S8x7168, .f32⟩
  | .hbm, ⟨7, _⟩ => ⟨S256x7168, .bf16⟩
  | .hbm, ⟨8, _⟩ => ⟨S256x4, .i32⟩
  | .hbm, ⟨9, _⟩ => ⟨S256x4, .f32⟩
  | .hbm, ⟨10, _⟩ => ⟨S8x1x1536, .f32⟩
  | .hbm, ⟨11, _⟩ => ⟨S8x1x7168, .f32⟩
  | .hbm, ⟨12, _⟩ => ⟨S256x7168, .bf16⟩
  | .hbm, ⟨13, _⟩ => ⟨S256x1x7168, .bf16⟩
  | .local _ .vmem, ⟨0, _⟩ => ⟨S256x7168, .bf16⟩
  | .local _ .vmem, ⟨1, _⟩ => ⟨S256x4, .i32⟩
  | .local _ .vmem, ⟨2, _⟩ => ⟨S256x4, .f32⟩
  | .local _ .vmem, ⟨3, _⟩ => ⟨S1x7168x1536, .fp8e4m3⟩
  | .local _ .vmem, ⟨4, _⟩ => ⟨S1x7168x1536, .fp8e4m3⟩
  | .local _ .vmem, ⟨5, _⟩ => ⟨S1x1x1536, .f32⟩
  | .local _ .vmem, ⟨6, _⟩ => ⟨S1x1x1536, .f32⟩
  | .local _ .vmem, ⟨7, _⟩ => ⟨S1x768x7168, .fp8e4m3⟩
  | .local _ .vmem, ⟨8, _⟩ => ⟨S1x768x7168, .fp8e4m3⟩
  | .local _ .vmem, ⟨9, _⟩ => ⟨S1x1x7168, .f32⟩
  | .local _ .vmem, ⟨10, _⟩ => ⟨S1x1x7168, .f32⟩
  | .local _ .vmem, ⟨11, _⟩ => ⟨S256x7168, .bf16⟩
  | .local _ .vmem, ⟨12, _⟩ => ⟨S256x7168, .f32⟩
  | _, _ => ⟨S256x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x7168x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x7168 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S256x1x7168 : Shape := ⟨3, ![256, 1, 7168]⟩
abbrev S256x1x4 : Shape := ⟨3, ![256, 1, 4]⟩
abbrev S8x7168x1536 : Shape := ⟨3, ![8, 7168, 1536]⟩
abbrev S8x1536 : Shape := ⟨2, ![8, 1536]⟩
abbrev S8x768x7168 : Shape := ⟨3, ![8, 768, 7168]⟩
abbrev S8x7168 : Shape := ⟨2, ![8, 7168]⟩
abbrev S256x7168 : Shape := ⟨2, ![256, 7168]⟩
abbrev S256x4 : Shape := ⟨2, ![256, 4]⟩
abbrev S256 : Shape := ⟨1, ![256]⟩
abbrev S256x1 : Shape := ⟨2, ![256, 1]⟩
abbrev S1x7168x1536 : Shape := ⟨3, ![1, 7168, 1536]⟩
abbrev S7168x1536 : Shape := ⟨2, ![7168, 1536]⟩
abbrev S256x1536 : Shape := ⟨2, ![256, 1536]⟩
abbrev S1x1536 : Shape := ⟨2, ![1, 1536]⟩
abbrev S1536 : Shape := ⟨1, ![1536]⟩
abbrev S256x768 : Shape := ⟨2, ![256, 768]⟩
abbrev S1x768x7168 : Shape := ⟨3, ![1, 768, 7168]⟩
abbrev S768x7168 : Shape := ⟨2, ![768, 7168]⟩
abbrev S1x7168 : Shape := ⟨2, ![1, 7168]⟩
abbrev S7168 : Shape := ⟨1, ![7168]⟩

abbrev nBuf : Space → Nat
  | .hbm => 12
  | .vmem => 8
  | .smem => 0
  | _ => 0

abbrev bufTy : (tb : Table) → Fin (tcTables nBuf tb) → BufTy
  | .hbm, ⟨0, _⟩ => ⟨S256x1x7168, .bf16⟩
  | .hbm, ⟨1, _⟩ => ⟨S256x1x4, .i32⟩
  | .hbm, ⟨2, _⟩ => ⟨S256x1x4, .f32⟩
  | .hbm, ⟨3, _⟩ => ⟨S8x7168x1536, .fp8e4m3⟩
  | .hbm, ⟨4, _⟩ => ⟨S8x1536, .f32⟩
  | .hbm, ⟨5, _⟩ => ⟨S8x768x7168, .fp8e4m3⟩
  | .hbm, ⟨6, _⟩ => ⟨S8x7168, .f32⟩
  | .hbm, ⟨7, _⟩ => ⟨S256x7168, .bf16⟩
  | .hbm, ⟨8, _⟩ => ⟨S256x4, .i32⟩
  | .hbm, ⟨9, _⟩ => ⟨S256x4, .f32⟩
  | .hbm, ⟨10, _⟩ => ⟨S256x7168, .bf16⟩
  | .hbm, ⟨11, _⟩ => ⟨S256x1x7168, .bf16⟩
  | .local _ .vmem, ⟨0, _⟩ => ⟨S256x7168, .bf16⟩
  | .local _ .vmem, ⟨1, _⟩ => ⟨S256x4, .i32⟩
  | .local _ .vmem, ⟨2, _⟩ => ⟨S256x4, .f32⟩
  | .local _ .vmem, ⟨3, _⟩ => ⟨S8x7168x1536, .fp8e4m3⟩
  | .local _ .vmem, ⟨4, _⟩ => ⟨S8x1536, .f32⟩
  | .local _ .vmem, ⟨5, _⟩ => ⟨S8x768x7168, .fp8e4m3⟩
  | .local _ .vmem, ⟨6, _⟩ => ⟨S8x7168, .f32⟩
  | .local _ .vmem, ⟨7, _⟩ => ⟨S256x7168, .bf16⟩
  | _, _ => ⟨S256x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x7168x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x768x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Spec.lean ====
module

public import Idealize.ShloMosaic.Lib.Pointwise

@[expose] public section

noncomputable section

open Idealize.ShloMosaic

namespace Cert.Moe

/-- What an expert, known by the 32-bit number `e`, weighs in one token's sum: the routing weights of the token's
    four chosen slots, those left out whose chosen expert is another. -/
def coef (e : BitVec 32) (ids : Fin 4 → BitVec 32) (ew : Fin 4 → EReal) : EReal :=
  ∑ s, Scalar.select (IntOp.cmpi CmpIPredicate.eq (ids s) e) (ew s) 0

/-- Column `c` of an expert's first product for one token: the token's row against that column of the gate-and-up
    weights, times the column's scale. -/
def gateUp (x : Fin 7168 → EReal) (w : Fin 7168 → Fin 1536 → EReal) (s : Fin 1536 → EReal) (c : Fin 1536) : EReal :=
  (∑ k, x k * w k c) * s c

/-- Entry `k` of an expert's hidden row for one token: the gate column `k` through `z * logistic z`, times the up
    column, which lies 768 columns further. -/
def hidden (x : Fin 7168 → EReal) (w : Fin 7168 → Fin 1536 → EReal) (s : Fin 1536 → EReal) (k : Fin 768) : EReal :=
  gateUp x w s ⟨k, by omega⟩ * Ideal.logistic (gateUp x w s ⟨k, by omega⟩) * gateUp x w s ⟨768 + k, by omega⟩

/-- One expert's share of one entry of the result: its hidden row against one column of the down weights, times that
    column's scale, times the weight of the expert in the token's sum. -/
def share (e : BitVec 32) (ids : Fin 4 → BitVec 32) (ew : Fin 4 → EReal) (x : Fin 7168 → EReal)
    (w : Fin 7168 → Fin 1536 → EReal) (s : Fin 1536 → EReal) (d : Fin 768 → EReal) (sd : EReal) : EReal :=
  (∑ k, hidden x w s k * d k) * sd * coef e ids ew

end Cert.Moe

end
-- ==== Proof.KernelPoint.lean ====
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem

namespace Cert.KernelIdeal.Point

open Cert.KernelIdeal Cert.KernelIdeal.Gen

/-- The accumulator after one grid point, as the body computes it from the point's blocks and the accumulator before. -/
def step (i : grid0.Coords) (x0 : FVec Ideal S256x7168 .bf16) (x1 : Vec Ideal S256x4 .i32) (x2 : FVec Ideal S256x4 .f32)
    (x3 : FVec Ideal S1x7168x1536 .fp8e4m3) (x4 : FVec Ideal S1x1x1536 .f32) (x5 : FVec Ideal S1x768x7168 .fp8e4m3)
    (x6 : FVec Ideal S1x1x7168 .f32) (acc : FVec Ideal S256x7168 .f32) : FVec Ideal S256x7168 .f32 :=
  k0_pay1 (F := Ideal) (k0_pay4 (F := Ideal) i x1 x2) (k0_pay5 (F := Ideal) x0 x3 x4 x5) acc x6

/-- One grid point adds to each accumulator entry the share of the expert its grid coordinate names. -/
theorem step_apply (i : grid0.Coords) (x0 : FVec Ideal S256x7168 .bf16) (x1 : Vec Ideal S256x4 .i32) (x2 : FVec Ideal S256x4 .f32)
    (x3 : FVec Ideal S1x7168x1536 .fp8e4m3) (x4 : FVec Ideal S1x1x1536 .f32) (x5 : FVec Ideal S1x768x7168 .fp8e4m3)
    (x6 : FVec Ideal S1x1x7168 .f32) (acc : FVec Ideal S256x7168 .f32) (j : S256x7168.Idx) :
    step i x0 x1 x2 x3 x4 x5 x6 acc j
      = acc j + Moe.share (BitVec.ofNat 32 (i 0)) (fun s => x1 (ix2 (j 0) s)) (fun s => x2 (ix2 (j 0) s))
          (fun k => x0 (ix2 (j 0) k)) (fun k c => x3 (ix3 0 k c)) (fun c => x4 (ix3 0 0 c)) (fun k => x5 (ix3 0 k (j 1)))
          (x6 (ix3 0 0 (j 1))) := by
  unfold Moe.share Moe.coef Moe.hidden Moe.gateUp
  pointwise [step, k0_pay1, k0_pay4, k0_pay5]

/-- The accumulator starts at zero. -/
theorem zeros_apply (j : S256x7168.Idx) : k0_pay3 (F := Ideal) j = 0 := by
  pointwise [k0_pay3]

/-- The output block is the accumulator, entry by entry. -/
theorem out_apply (v : FVec Ideal S256x7168 .f32) (j : S256x7168.Idx) : k0_pay2 (F := Ideal) v j = v j := by
  pointwise [k0_pay2]

end Cert.KernelIdeal.Point
end
-- ==== Proof.KernelFold.lean ====
module

public import proofs.«01_k».proof.Proof.Gen.KernelIdeal.Frame
public import proofs.«01_k».proof.Proof.KernelPoint
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen Cert.KernelIdeal.Point

variable (m : (ℓ : Loc nD τ sig) → Buf (Elt Ideal) ℓ)

/-- The body's step at point `t` over the blocks staged there. -/
def stepAt (c : Dev nD) (t : Fin cfg0.N) (acc : FVec Ideal S256x7168 .f32) : FVec Ideal S256x7168 .f32 :=
  step (grid0.coords t) (iblk m c 0 t) (iblk m c 1 t) (iblk m c 2 t) (iblk m c 3 t) (iblk m c 4 t) (iblk m c 5 t) (iblk m c 6 t) acc

/-- The first point leaves the accumulator one step from zero. -/
theorem acc_first (c : Dev nD) (t : Fin cfg0.N) (h0 : t.val % 8 = 0) (h1 : ¬t.val % 8 = 7) :
    (outsAt0 m c t.val t.isLt).2 = stepAt m c t (k0_pay3 (F := Ideal)) := by
  rw [outsAt0_A m c t h0 h1]
  frame_out
  rfl

/-- A later point leaves the accumulator one step from what the point before left. -/
theorem acc_next (c : Dev nD) (t : Fin cfg0.N) (h0 : ¬t.val % 8 = 0) :
    (outsAt0 m c t.val t.isLt).2 = stepAt m c t (outsAt0 m c (t.val - 1) (by omega)).2 := by
  by_cases h1 : t.val % 8 = 7
  · rw [outsAt0_C m c t h0 h1]
    frame_out
    exact congrArg (fun a => k0_pay1 (F := Ideal) _ _ a _) ((Memref.isWhole_whole cc0_scratch0).read_unread _)
  · rw [outsAt0_B m c t h0 h1]
    frame_out
    exact congrArg (fun a => k0_pay1 (F := Ideal) _ _ a _) ((Memref.isWhole_whole cc0_scratch0).read_unread _)

/-- The last point leaves the accumulator, narrowed, in the output's block. -/
theorem out_last (c : Dev nD) (t : Fin cfg0.N) (h0 : ¬t.val % 8 = 0) (h1 : t.val % 8 = 7) :
    (outsAt0 m c t.val t.isLt).1 = k0_pay2 (F := Ideal) (outsAt0 m c t.val t.isLt).2 := by
  rw [outsAt0_C m c t h0 h1]
  frame_out

/-- Expert `e`'s share of entry `(r, l)`, read from the argument arrays. -/
def shareAt (c : Dev nD) (r : Fin 256) (l : Fin 7168) (e : Fin 8) : EReal :=
  Moe.share (BitVec.ofNat 32 e) (fun s => m ((c : Thread nD τ).loc main_arg1) (ix3 r 0 s))
    (fun s => m ((c : Thread nD τ).loc main_arg2) (ix3 r 0 s))
    (fun k => m ((c : Thread nD τ).loc main_arg0) (ix3 r 0 k)) (fun k i => m ((c : Thread nD τ).loc main_arg3) (ix3 e k i))
    (fun i => m ((c : Thread nD τ).loc main_arg4) (ix2 e i)) (fun k => m ((c : Thread nD τ).loc main_arg5) (ix3 e k l))
    (m ((c : Thread nD τ).loc main_arg6) (ix2 e l))

/-- The block each window stages at a point, decided over the grid: the weights' and scales' first axis follows the
    point, every other index is zero. -/
theorem idx : ∀ t : Fin cfg0.N, (grid0.coords t 0).val = t.val
    ∧ (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-- The expert a grid point is at. -/
abbrev expert (t : Fin cfg0.N) : Fin 8 := ⟨t.val, t.isLt.trans_eq N_0⟩

/-- The host operations before the grid run are the one printed list. -/
theorem entry_ops : [hostOps0 (F := Ideal)].flatten = hostOps0 := List.append_nil _

/-- Every point stages all the tokens. -/
theorem iblk0 (c : Dev nD) (t : Fin cfg0.N) (r : Fin 256) (k : Fin 7168) :
    iblk m c 0 t (ix2 r k) = m ((c : Thread nD τ).loc main_arg0) (ix3 r 0 k) := by
  blk_simp [iblk]
  unfold V V0
  rw [entry_ops]
  unfold hostOps0
  entry_read
  pointwise
  blk_ext [idx t]

/-- Every point stages all the chosen experts. -/
theorem iblk1 (c : Dev nD) (t : Fin cfg0.N) (r : Fin 256) (s : Fin 4) :
    iblk m c 1 t (ix2 r s) = m ((c : Thread nD τ).loc main_arg1) (ix3 r 0 s) := by
  blk_simp [iblk]
  unfold V V0
  rw [entry_ops]
  unfold hostOps0
  entry_read
  pointwise
  blk_ext [idx t]

/-- Every point stages all the routing weights. -/
theorem iblk2 (c : Dev nD) (t : Fin cfg0.N) (r : Fin 256) (s : Fin 4) :
    iblk m c 2 t (ix2 r s) = m ((c : Thread nD τ).loc main_arg2) (ix3 r 0 s) := by
  blk_simp [iblk]
  unfold V V0
  rw [entry_ops]
  unfold hostOps0
  entry_read
  pointwise
  blk_ext [idx t]

/-- A point stages its own expert's gate-and-up weights. -/
theorem iblk3 (c : Dev nD) (t : Fin cfg0.N) (k : Fin 7168) (i : Fin 1536) :
    iblk m c 3 t (ix3 0 k i) = m ((c : Thread nD τ).loc main_arg3) (ix3 (expert t) k i) := by
  blk_point [iblk, V, idx t]

/-- A point stages its own expert's gate-and-up scales. -/
theorem iblk4 (c : Dev nD) (t : Fin cfg0.N) (i : Fin 1536) :
    iblk m c 4 t (ix3 0 0 i) = m ((c : Thread nD τ).loc main_arg4) (ix2 (expert t) i) := by
  blk_simp [iblk]
  unfold V V0
  rw [entry_ops]
  unfold hostOps0
  entry_read
  pointwise
  blk_ext [idx t]

/-- A point stages its own expert's down weights. -/
theorem iblk5 (c : Dev nD) (t : Fin cfg0.N) (k : Fin 768) (l : Fin 7168) :
    iblk m c 5 t (ix3 0 k l) = m ((c : Thread nD τ).loc main_arg5) (ix3 (expert t) k l) := by
  blk_point [iblk, V, idx t]

/-- A point stages its own expert's down scales. -/
theorem iblk6 (c : Dev nD) (t : Fin cfg0.N) (l : Fin 7168) :
    iblk m c 6 t (ix3 0 0 l) = m ((c : Thread nD τ).loc main_arg6) (ix2 (expert t) l) := by
  blk_simp [iblk]
  unfold V V0
  rw [entry_ops]
  unfold hostOps0
  entry_read
  pointwise
  blk_ext [idx t]

/-- One point's step adds the share of the expert the point is at. -/
theorem stepAt_apply (c : Dev nD) (t : Fin cfg0.N) (acc : FVec Ideal S256x7168 .f32) (r : Fin 256) (l : Fin 7168) :
    stepAt m c t acc (ix2 r l) = acc (ix2 r l) + shareAt m c r l (expert t) := by
  unfold stepAt shareAt
  rw [step_apply, (idx t).1]
  simp only [show ix2 r l 0 = r from rfl, show ix2 r l 1 = l from rfl]
  simp only [iblk0, iblk1, iblk2, iblk3, iblk4, iblk5, iblk6]

/-- After point `n` each accumulator entry is the sum of the shares of the experts up to `n`. -/
theorem acc_eq (c : Dev nD) (r : Fin 256) (l : Fin 7168) : ∀ (n : ℕ) (hn : n < cfg0.N),
    (outsAt0 m c n hn).2 (ix2 r l) = ∑ e : Fin (n + 1), shareAt m c r l ⟨e.val, by have := e.isLt; have := hn.trans_eq N_0; omega⟩ := by
  intro n
  induction n with
  | zero =>
    intro hn
    rw [acc_first m c ⟨0, hn⟩ rfl (by show ¬0 % 8 = 7; decide), stepAt_apply, zeros_apply, zero_add, Fin.sum_univ_one]
    rfl
  | succ n ih =>
    intro hn
    have h8 : n + 1 < 8 := hn.trans_eq N_0
    rw [acc_next m c ⟨n + 1, hn⟩ (by show ¬(n + 1) % 8 = 0; omega), stepAt_apply, Fin.sum_univ_castSucc]
    exact congrArg (· + _) (ih (by omega))

/-- What the last point writes back: every expert's share, added up. -/
theorem out_eq (c : Dev nD) (t : Fin cfg0.N) (h1 : t.val % 8 = 7) (r : Fin 256) (l : Fin 7168) :
    (outsAt0 m c t.val t.isLt).1 (ix2 r l) = ∑ e, shareAt m c r l e := by
  rw [out_last m c t (by omega) h1, out_apply]
  obtain ⟨n, hn⟩ := t
  obtain rfl : n = 7 := by have := hn.trans_eq N_0; dsimp only at h1; omega
  exact acc_eq m c r l 7 hn

end Cert.KernelIdeal.Fold

end
-- ==== Proof.KernelRun.lean ====
module

public import proofs.«01_k».proof.Proof.KernelFold
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Fold

variable (m : (ℓ : Loc nD τ sig) → Buf (Elt Ideal) ℓ) (ρ : Dev nD → PrngReg)

/-- The output's block is the whole array at every point, decided over the grid. -/
theorem idx_out : ∀ t : Fin cfg0.N, win0_7.index t (0 : Fin 2) = 0 ∧ win0_7.index t (1 : Fin 2) = 0 :=
  (by decide +kernel : ∀ t : Fin grid0.N, _)

/-- The output array after the grid: in every entry the eight experts' shares, added up. -/
theorem final (c : Dev nD) :
    (dats m 0 c).arrAt 7 cfg0.N = fun j : S256x7168.Idx => ∑ e, shareAt m c (j 0) (j 1) e := by
  refine (dats m 0 c).arrAt_eq_of_covers 7 _ (by decide +kernel) fun t hf y => ?_
  blk_simp
  rw [after0_7]
  have e : y = ix2 (y 0) (y 1) := eq_ix2 (n0 := 256) (n1 := 7168) y
  have e' : (win0_7.blk t).view.emb y = y := by blk_ext [idx_out t]
  rw [e', e]
  exact out_eq m c t ((flush0_7 t).mp hf) (y 0) (y 1)

/-- The whole call, run to its end: the result holds, for each token and column, the eight experts' shares added up,
    and every argument is as it was. -/
theorem run : θ_run defs (onTc (τ := τ) (main (F := Ideal))) ⟨m, fun _ => 0, ρ⟩ fun r => ∀ c : Dev nD,
      r.2.mem ((c.tc : Thread nD τ).loc main_v6) = (fun j : S256x1x7168.Idx => ∑ e, shareAt m c (j 0) (j 2) e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  run_from Gen.run_main m ρ
  · unfold Pipeline.afterTail₀
    simp only [List.flatten_cons, List.flatten_nil, List.append_nil]
    unfold hostOps1
    after_results
    have e : Pipeline.withArrays (cfgs 0).spec c (V0 m c) (fun w => (dats m 0 c).arrAt w (cfgs 0).N)
        (Proc.tc.devRef main_v5) = (dats m 0 c).arrAt 7 cfg0.N :=
      Pipeline.withArrays_arr spec0 launch0.win.arr_inj c (V0 m c) (fun w => (dats m 0 c).arrAt w (cfgs 0).N) 7
    rw [e, final]
    pointwise
    rfl
  · exact W_main_arg0 m (dats m) c
  · exact W_main_arg1 m (dats m) c
  · exact W_main_arg2 m (dats m) c
  · exact W_main_arg4 m (dats m) c
  · exact W_main_arg6 m (dats m) c

end Cert.KernelIdeal.Run

end
-- ==== Proof.RefPoint.lean ====
module

public import proofs.«01_k».proof.Proof.Gen.ReferenceIdeal.Frame
public import proofs.«01_k».proof.Proof.Spec
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.ReferenceIdeal.Point

open Cert.ReferenceIdeal Cert.ReferenceIdeal.Gen

/-- Expert `e`'s share of entry `j` of the result, read from the reference's seven operands. -/
def share (x0 : Vec Ideal S256x7168 .bf16) (x1 : Vec Ideal S256x4 .i32) (x2 : Vec Ideal S256x4 .f32)
    (x3 : Vec Ideal S8x7168x1536 .fp8e4m3) (x4 : Vec Ideal S8x1536 .f32) (x5 : Vec Ideal S8x768x7168 .fp8e4m3)
    (x6 : Vec Ideal S8x7168 .f32) (j : S256x7168.Idx) (e : Fin 8) : EReal :=
  Moe.share (BitVec.ofNat 32 e) (fun s => x1 (ix2 (j 0) s)) (fun s => x2 (ix2 (j 0) s))
    (fun k => x0 (ix2 (j 0) k)) (fun k c => x3 (ix3 e k c)) (fun c => x4 (ix2 e c)) (fun k => x5 (ix3 e k (j 1)))
    (x6 (ix2 e (j 1)))

set_option maxHeartbeats 4000000 in
/-- The reference's body leaves in each entry of its output the sum of the eight experts' shares. -/
theorem out_apply (x0 : Vec Ideal S256x7168 .bf16) (x1 : Vec Ideal S256x4 .i32) (x2 : Vec Ideal S256x4 .f32)
    (x3 : Vec Ideal S8x7168x1536 .fp8e4m3) (x4 : Vec Ideal S8x1536 .f32) (x5 : Vec Ideal S8x768x7168 .fp8e4m3)
    (x6 : Vec Ideal S8x7168 .f32) (j : S256x7168.Idx) :
    out0_7 (F := Ideal) x0 x1 x2 x3 x4 x5 x6 j = ∑ e, share x0 x1 x2 x3 x4 x5 x6 j e := by
  have hz : (![0, 0] : Fin 2 → Nat) = fun _ => 0 := funext fun a => by fin_cases a <;> rfl
  rw [Fin.sum_univ_eight]
  unfold share Moe.share Moe.coef Moe.hidden Moe.gateUp
  unfold_out out0_7
  rw [View.canon_unit_zero (S := S256x7168) hz]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21]

end Cert.ReferenceIdeal.Point
end
-- ==== Proof.RefRun.lean ====
module

public import proofs.«01_k».proof.Proof.RefPoint
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Run

open Cert.ReferenceIdeal Cert.ReferenceIdeal.Gen

variable (m : (ℓ : Loc nD τ sig) → Buf (Elt Ideal) ℓ) (ρ : Dev nD → PrngReg)

/-- Expert `e`'s share of entry `(r, l)`, read from the argument arrays. -/
def shareAt (c : Dev nD) (r : Fin 256) (l : Fin 7168) (e : Fin 8) : EReal :=
  Moe.share (BitVec.ofNat 32 e) (fun s => m ((c : Thread nD τ).loc main_arg1) (ix3 r 0 s))
    (fun s => m ((c : Thread nD τ).loc main_arg2) (ix3 r 0 s))
    (fun k => m ((c : Thread nD τ).loc main_arg0) (ix3 r 0 k)) (fun k i => m ((c : Thread nD τ).loc main_arg3) (ix3 e k i))
    (fun i => m ((c : Thread nD τ).loc main_arg4) (ix2 e i)) (fun k => m ((c : Thread nD τ).loc main_arg5) (ix3 e k l))
    (m ((c : Thread nD τ).loc main_arg6) (ix2 e l))

/-- The host operations before the region are the one printed list. -/
theorem entry_ops : [hostOps0 (F := Ideal)].flatten = hostOps0 := List.append_nil _

/-- Every window's block is its whole array. -/
theorem idx : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0) :=
  (by decide +kernel : ∀ t : Fin grid0.N, _)

/-- The first operand is the tokens. -/
theorem iblk0 (c : Dev nD) (t : Fin cfg0.N) (r : Fin 256) (k : Fin 7168) :
    iblk m c 0 t (ix2 r k) = m ((c : Thread nD τ).loc main_arg0) (ix3 r 0 k) := by
  blk_simp [iblk]
  unfold V V0
  rw [entry_ops]
  unfold hostOps0
  entry_read
  pointwise
  blk_ext [idx t]

/-- The second operand is the chosen experts. -/
theorem iblk1 (c : Dev nD) (t : Fin cfg0.N) (r : Fin 256) (s : Fin 4) :
    iblk m c 1 t (ix2 r s) = m ((c : Thread nD τ).loc main_arg1) (ix3 r 0 s) := by
  blk_simp [iblk]
  unfold V V0
  rw [entry_ops]
  unfold hostOps0
  entry_read
  pointwise
  blk_ext [idx t]

/-- The third operand is the routing weights. -/
theorem iblk2 (c : Dev nD) (t : Fin cfg0.N) (r : Fin 256) (s : Fin 4) :
    iblk m c 2 t (ix2 r s) = m ((c : Thread nD τ).loc main_arg2) (ix3 r 0 s) := by
  blk_simp [iblk]
  unfold V V0
  rw [entry_ops]
  unfold hostOps0
  entry_read
  pointwise
  blk_ext [idx t]

/-- The fourth operand is the gate-and-up weights. -/
theorem iblk3 (c : Dev nD) (t : Fin cfg0.N) (e : Fin 8) (k : Fin 7168) (i : Fin 1536) :
    iblk m c 3 t (ix3 e k i) = m ((c : Thread nD τ).loc main_arg3) (ix3 e k i) := by
  blk_point [iblk, V, idx t]

/-- The fifth operand is the gate-and-up scales. -/
theorem iblk4 (c : Dev nD) (t : Fin cfg0.N) (e : Fin 8) (i : Fin 1536) :
    iblk m c 4 t (ix2 e i) = m ((c : Thread nD τ).loc main_arg4) (ix2 e i) := by
  blk_point [iblk, V, idx t]

/-- The sixth operand is the down weights. -/
theorem iblk5 (c : Dev nD) (t : Fin cfg0.N) (e : Fin 8) (k : Fin 768) (l : Fin 7168) :
    iblk m c 5 t (ix3 e k l) = m ((c : Thread nD τ).loc main_arg5) (ix3 e k l) := by
  blk_point [iblk, V, idx t]

/-- The seventh operand is the down scales. -/
theorem iblk6 (c : Dev nD) (t : Fin cfg0.N) (e : Fin 8) (l : Fin 7168) :
    iblk m c 6 t (ix2 e l) = m ((c : Thread nD τ).loc main_arg6) (ix2 e l) := by
  blk_point [iblk, V, idx t]

/-- An expert's share over the staged operands is its share over the argument arrays. -/
theorem share_iblk (c : Dev nD) (t : Fin cfg0.N) (r : Fin 256) (l : Fin 7168) (e : Fin 8) :
    Point.share (iblk m c 0 t) (iblk m c 1 t) (iblk m c 2 t) (iblk m c 3 t) (iblk m c 4 t) (iblk m c 5 t) (iblk m c 6 t) (ix2 r l) e
      = shareAt m c r l e := by
  unfold Point.share shareAt
  simp only [show ix2 r l 0 = r from rfl, show ix2 r l 1 = l from rfl]
  simp only [iblk0, iblk1, iblk2, iblk3, iblk4, iblk5, iblk6]

/-- The output's block is the whole array. -/
theorem idx_out : ∀ t : Fin cfg0.N, win0_7.index t (0 : Fin 2) = 0 ∧ win0_7.index t (1 : Fin 2) = 0 :=
  (by decide +kernel : ∀ t : Fin grid0.N, _)

/-- The output array after the region: in every entry the eight experts' shares, added up. -/
theorem final (c : Dev nD) :
    (dats m 0 c).arrAt 7 cfg0.N = fun j : S256x7168.Idx => ∑ e, shareAt m c (j 0) (j 1) e := by
  refine (dats m 0 c).arrAt_eq_of_covers 7 _ (by decide +kernel) fun t hf y => ?_
  blk_simp
  rw [after0_7]
  have e : y = ix2 (y 0) (y 1) := eq_ix2 (n0 := 256) (n1 := 7168) y
  have e' : (win0_7.blk t).view.emb y = y := by blk_ext [idx_out t]
  rw [e', e]
  refine (Point.out_apply (iblk m c 0 t) (iblk m c 1 t) (iblk m c 2 t) (iblk m c 3 t) (iblk m c 4 t) (iblk m c 5 t) (iblk m c 6 t)
    (ix2 (y 0) (y 1))).trans ?_
  exact Finset.sum_congr rfl fun e _ => share_iblk m c t (y 0) (y 1) e

/-- The whole reference, run to its end: the result holds, for each token and column, the eight experts' shares added
    up, and every argument is as it was. -/
theorem run : θ_run defs (onTc (τ := τ) (main (F := Ideal))) ⟨m, fun _ => 0, ρ⟩ fun r => ∀ c : Dev nD,
      r.2.mem ((c.tc : Thread nD τ).loc main_v4) = (fun j : S256x1x7168.Idx => ∑ e, shareAt m c (j 0) (j 2) e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  run_from Gen.run_main m ρ
  · unfold Pipeline.afterTail₀
    simp only [List.flatten_cons, List.flatten_nil, List.append_nil]
    unfold hostOps1
    after_results
    have e : Pipeline.withArrays (cfgs 0).spec c (V0 m c) (fun w => (dats m 0 c).arrAt w (cfgs 0).N)
        (Proc.tc.devRef main_v3) = (dats m 0 c).arrAt 7 cfg0.N :=
      Pipeline.withArrays_arr spec0 launch0.win.arr_inj c (V0 m c) (fun w => (dats m 0 c).arrAt w (cfgs 0).N) 7
    rw [e, final]
    pointwise
    rfl
  · exact W_main_arg0 m (dats m) c
  · exact W_main_arg1 m (dats m) c
  · exact W_main_arg2 m (dats m) c

end Cert.ReferenceIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.RefRun
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The kernel and the reference, both over extended reals, leave equal results on equal arguments: in each entry the
    same eight shares, added up. -/
theorem algebraic : Cert.algebraic_KernelIdeal_ReferenceIdeal := by
  pair_intro
  · run_from Cert.KernelIdeal.Run.run m g
  · run_from Cert.ReferenceIdeal.Run.run m' g'
    obtain ⟨h0, h1, h2, h3, h4, h5, h6⟩ := hagree c
    unfold ReferenceIdeal.Run.shareAt KernelIdeal.Fold.shareAt
    rw [h0, h1, h2, h3, h4, h5, h6]

/-- The five claims, each of them proved. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
